-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases_zero [hPre_biases_zero : Cert.Pre_biases_zero.Facts] (m : (ℓ : Loc Cert.KernelIdeal.nD Cert.KernelIdeal.τ Cert.KernelIdeal.sig) → Buf (Elt Ideal) ℓ) : Prop :=
  ∀ c : Dev Cert.KernelIdeal.nD,
    (Cert.Pre_biases_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases_zero [hPre_biases_zero : Cert.Pre_biases_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_biases_zero [hKernelIdeal : Cert.KernelIdeal.Facts] [hPre_biases_zero : Cert.Pre_biases_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_biases_zero [hReferenceIdeal : Cert.ReferenceIdeal.Facts] [hPre_biases_zero : Cert.Pre_biases_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_biases_zero [hKernelIdeal : Cert.KernelIdeal.Facts] [hReferenceIdeal : Cert.ReferenceIdeal.Facts] [hPre_biases_zero : Cert.Pre_biases_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_biases_zero : Cert.Pre_biases_zero.Facts),
    quiescent_Kernel (hKernel := hKernel)
    ∧ quiescent_KernelIdeal (hKernelIdeal := hKernelIdeal)
    ∧ quiescent_KernelIdeal_pre_biases_zero (hKernelIdeal := hKernelIdeal) (hPre_biases_zero := hPre_biases_zero)
    ∧ quiescent_ReferenceIdeal (hReferenceIdeal := hReferenceIdeal)
    ∧ quiescent_ReferenceIdeal_pre_biases_zero (hReferenceIdeal := hReferenceIdeal) (hPre_biases_zero := hPre_biases_zero)
    ∧ preserves_Kernel_KernelIdeal
    ∧ algebraic_KernelIdeal_ReferenceIdeal_pre_biases_zero (hKernelIdeal := hKernelIdeal) (hReferenceIdeal := hReferenceIdeal) (hPre_biases_zero := hPre_biases_zero)
-- ==== Pre_biases_zero.lean ====
abbrev S131072x3x64 : Shape := ⟨3, ![131072, 3, 64]⟩
abbrev S64x64 : Shape := ⟨2, ![64, 64]⟩
abbrev S64 : Shape := ⟨1, ![64]⟩
abbrev S128x64 : Shape := ⟨2, ![128, 64]⟩
abbrev S192x32 : Shape := ⟨2, ![192, 32]⟩
abbrev S32 : Shape := ⟨1, ![32]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S131072x3x64 .f32) (main_arg1 : FVec F S64x64 .f32) (main_arg2 : FVec F S64 .f32) (main_arg3 : FVec F S128x64 .f32) (main_arg4 : FVec F S64 .f32) (main_arg5 : FVec F S192x32 .f32) (main_arg6 : FVec F S32 .f32) : IVec S_ 1 :=
  let main_cst : FVec F S_ .f32 := constant S_ .f32 0x00000000#32
  let main_v0 : FVec F S64 .f32 := broadcastInDim S64 ![] bcast_S_S64 main_cst
  let main_v1 : IVec S64 1 := cmpf .oeq main_arg2 main_v0
  let main_c : IVec S_ 1 := constantI S_ 1 1#1
  let main_v2 : IVec S_ 1 := (fun x v => Host.reduce IntOp.andi x v reducesTo_S64_S_d0 h_S_) main_v1 main_c
  let main_cst_0 : FVec F S_ .f32 := constant S_ .f32 0x00000000#32
  let main_v3 : FVec F S64 .f32 := broadcastInDim S64 ![] bcast_S_S64 main_cst_0
  let main_v4 : IVec S64 1 := cmpf .oeq main_arg4 main_v3
  let main_c_1 : IVec S_ 1 := constantI S_ 1 1#1
  let main_v5 : IVec S_ 1 := (fun x v => Host.reduce IntOp.andi x v reducesTo_S64_S_d0 h_S_) main_v4 main_c_1
  let main_v6 : IVec S_ 1 := andi main_v2 main_v5
  let main_cst_2 : FVec F S_ .f32 := constant S_ .f32 0x00000000#32
  let main_v7 : FVec F S32 .f32 := broadcastInDim S32 ![] bcast_S_S32 main_cst_2
  let main_v8 : IVec S32 1 := cmpf .oeq main_arg6 main_v7
  let main_c_3 : IVec S_ 1 := constantI S_ 1 1#1
  let main_v9 : IVec S_ 1 := (fun x v => Host.reduce IntOp.andi x v reducesTo_S32_S_d0 h_S_) main_v8 main_c_3
  let main_v10 : IVec S_ 1 := andi main_v6 main_v9
  main_v10
-- ==== Kernel.lean ====
abbrev S131072x3x64 : Shape := ⟨3, ![131072, 3, 64]⟩
abbrev S64x64 : Shape := ⟨2, ![64, 64]⟩
abbrev S64 : Shape := ⟨1, ![64]⟩
abbrev S128x64 : Shape := ⟨2, ![128, 64]⟩
abbrev S192x32 : Shape := ⟨2, ![192, 32]⟩
abbrev S32 : Shape := ⟨1, ![32]⟩
abbrev S3x3 : Shape := ⟨2, ![3, 3]⟩
abbrev S_ : Shape := ⟨0, ![]⟩
abbrev S3 : Shape := ⟨1, ![3]⟩
abbrev S3x1 : Shape := ⟨2, ![3, 1]⟩
abbrev S64x192 : Shape := ⟨2, ![64, 192]⟩
abbrev S192x192 : Shape := ⟨2, ![192, 192]⟩
abbrev S3x1x3x1 : Shape := ⟨4, ![3, 1, 3, 1]⟩
abbrev S1x64x1x64 : Shape := ⟨4, ![1, 64, 1, 64]⟩
abbrev S3x64x3x64 : Shape := ⟨4, ![3, 64, 3, 64]⟩
abbrev S192x192x1 : Shape := ⟨3, ![192, 192, 1]⟩
abbrev S1x192x192 : Shape := ⟨3, ![1, 192, 192]⟩
abbrev S192x192x192 : Shape := ⟨3, ![192, 192, 192]⟩
abbrev S256x256 : Shape := ⟨2, ![256, 256]⟩
abbrev S512x256 : Shape := ⟨2, ![512, 256]⟩
abbrev S256x32 : Shape := ⟨2, ![256, 32]⟩
abbrev S131072x192 : Shape := ⟨2, ![131072, 192]⟩
abbrev S131072x32 : Shape := ⟨2, ![131072, 32]⟩
abbrev S8192x192 : Shape := ⟨2, ![8192, 192]⟩
abbrev S8192x32 : Shape := ⟨2, ![8192, 32]⟩
abbrev S8192x64 : Shape := ⟨2, ![8192, 64]⟩
abbrev S8192x256 : Shape := ⟨2, ![8192, 256]⟩
abbrev S8192x512 : Shape := ⟨2, ![8192, 512]⟩

abbrev nBuf : Space → Nat
  | .hbm => 72
  | .vmem => 7
  | .smem => 0
  | _ => 0

abbrev bufTy : (tb : Table) → Fin (tcTables nBuf tb) → BufTy
  | .hbm, ⟨0, _⟩ => ⟨S131072x3x64, .f32⟩
  | .hbm, ⟨1, _⟩ => ⟨S64x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S192x32, .f32⟩
  | .hbm, ⟨6, _⟩ => ⟨S32, .f32⟩
  | .hbm, ⟨7, _⟩ => ⟨S3x3, .f32⟩
  | .hbm, ⟨8, _⟩ => ⟨S_, .f32⟩
  | .hbm, ⟨9, _⟩ => ⟨S3, .f32⟩
  | .hbm, ⟨10, _⟩ => ⟨S3x1, .f32⟩
  | .hbm, ⟨11, _⟩ => ⟨S3x3, .f32⟩
  | .hbm, ⟨12, _⟩ => ⟨S3x3, .f32⟩
  | .hbm, ⟨13, _⟩ => ⟨S_, .f32⟩
  | .hbm, ⟨14, _⟩ => ⟨S64x64, .f32⟩
  | .hbm, ⟨15, _⟩ => ⟨S64x192, .f32⟩
  | .hbm, ⟨16, _⟩ => ⟨S64x192, .f32⟩
  | .hbm, ⟨17, _⟩ => ⟨S64x192, .f32⟩
  | .hbm, ⟨18, _⟩ => ⟨S192x192, .f32⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x192, .f32⟩
  | .hbm, ⟨23, _⟩ => ⟨S64x192, .f32⟩
  | .hbm, ⟨24, _⟩ => ⟨S64x192, .f32⟩
  | .hbm, ⟨25, _⟩ => ⟨S192x192, .f32⟩
  | .hbm, ⟨26, _⟩ => ⟨S3x3, .f32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S64x64, .f32⟩
  | .hbm, ⟨34, _⟩ => ⟨S3x1x3x1, .f32⟩
  | .hbm, ⟨35, _⟩ => ⟨S1x64x1x64, .f32⟩
  | .hbm, ⟨36, _⟩ => ⟨S3x64x3x64, .f32⟩
  | .hbm, ⟨37, _⟩ => ⟨S3x64x3x64, .f32⟩
  | .hbm, ⟨38, _⟩ => ⟨S3x64x3x64, .f32⟩
  | .hbm, ⟨39, _⟩ => ⟨S192x192, .f32⟩
  | .hbm, ⟨40, _⟩ => ⟨S192x192x1, .f32⟩
  | .hbm, ⟨41, _⟩ => ⟨S64x64, .f32⟩
  | .hbm, ⟨42, _⟩ => ⟨S_, .f32⟩
  | .hbm, ⟨43, _⟩ => ⟨S64x64, .f32⟩
  | .hbm, ⟨44, _⟩ => ⟨S64x192, .f32⟩
  | .hbm, ⟨45, _⟩ => ⟨S64x192, .f32⟩
  | .hbm, ⟨46, _⟩ => ⟨S64x192, .f32⟩
  | .hbm, ⟨47, _⟩ => ⟨S192x192, .f32⟩
  | .hbm, ⟨48, _⟩ => ⟨S1x192x192, .f32⟩
  | .hbm, ⟨49, _⟩ => ⟨S192x192x192, .f32⟩
  | .hbm, ⟨50, _⟩ => ⟨S192x192x192, .f32⟩
  | .hbm, ⟨51, _⟩ => ⟨S192x192x192, .f32⟩
  | .hbm, ⟨52, _⟩ => ⟨S_, .f32⟩
  | .hbm, ⟨53, _⟩ => ⟨S192x192, .f32⟩
  | .hbm, ⟨54, _⟩ => ⟨S_, .i32⟩
  | .hbm, ⟨55, _⟩ => ⟨S_, .f32⟩
  | .hbm, ⟨56, _⟩ => ⟨S256x256, .f32⟩
  | .hbm, ⟨57, _⟩ => ⟨S_, .i32⟩
  | .hbm, ⟨58, _⟩ => ⟨S_, .f32⟩
  | .hbm, ⟨59, _⟩ => ⟨S256x256, .f32⟩
  | .hbm, ⟨60, _⟩ => ⟨S_, .i32⟩
  | .hbm, ⟨61, _⟩ => ⟨S_, .f32⟩
  | .hbm, ⟨62, _⟩ => ⟨S256x256, .f32⟩
  | .hbm, ⟨63, _⟩ => ⟨S512x256, .f32⟩
  | .hbm, ⟨64, _⟩ => ⟨S_, .i32⟩
  | .hbm, ⟨65, _⟩ => ⟨S_, .f32⟩
  | .hbm, ⟨66, _⟩ => ⟨S256x32, .f32⟩
  | .hbm, ⟨67, _⟩ => ⟨S256x256, .bf16⟩
  | .hbm, ⟨68, _⟩ => ⟨S512x256, .bf16⟩
  | .hbm, ⟨69, _⟩ => ⟨S256x32, .bf16⟩
  | .hbm, ⟨70, _⟩ => ⟨S131072x192, .f32⟩
  | .hbm, ⟨71, _⟩ => ⟨S131072x32, .f32⟩
  | .local _ .vmem, ⟨0, _⟩ => ⟨S8192x192, .f32⟩
  | .local _ .vmem, ⟨1, _⟩ => ⟨S8192x192, .f32⟩
  | .local _ .vmem, ⟨2, _⟩ => ⟨S256x256, .bf16⟩
  | .local _ .vmem, ⟨3, _⟩ => ⟨S512x256, .bf16⟩
  | .local _ .vmem, ⟨4, _⟩ => ⟨S256x32, .bf16⟩
  | .local _ .vmem, ⟨5, _⟩ => ⟨S8192x32, .f32⟩
  | .local _ .vmem, ⟨6, _⟩ => ⟨S8192x32, .f32⟩
  | _, _ => ⟨S131072x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_c_5 : Ref sig .tc := ⟨.hbm, 54, rfl⟩
abbrev main_call4_v0 : Ref sig .tc := ⟨.hbm, 55, rfl⟩
abbrev main_v26 : Ref sig .tc := ⟨.hbm, 56, rfl⟩
abbrev main_c_6 : Ref sig .tc := ⟨.hbm, 57, rfl⟩
abbrev main_call5_v0 : Ref sig .tc := ⟨.hbm, 58, rfl⟩
abbrev main_v27 : Ref sig .tc := ⟨.hbm, 59, rfl⟩
abbrev main_c_7 : Ref sig .tc := ⟨.hbm, 60, rfl⟩
abbrev main_call6_v0 : Ref sig .tc := ⟨.hbm, 61, rfl⟩
abbrev main_v28 : Ref sig .tc := ⟨.hbm, 62, rfl⟩
abbrev main_v29 : Ref sig .tc := ⟨.hbm, 63, rfl⟩
abbrev main_c_8 : Ref sig .tc := ⟨.hbm, 64, rfl⟩
abbrev main_call7_v0 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S131072x3x64 : Shape := ⟨3, ![131072, 3, 64]⟩
abbrev S64x64 : Shape := ⟨2, ![64, 64]⟩
abbrev S64 : Shape := ⟨1, ![64]⟩
abbrev S128x64 : Shape := ⟨2, ![128, 64]⟩
abbrev S192x32 : Shape := ⟨2, ![192, 32]⟩
abbrev S32 : Shape := ⟨1, ![32]⟩
abbrev S3x3 : Shape := ⟨2, ![3, 3]⟩
abbrev S_ : Shape := ⟨0, ![]⟩
abbrev S3 : Shape := ⟨1, ![3]⟩
abbrev S3x1 : Shape := ⟨2, ![3, 1]⟩
abbrev S1x1x64 : Shape := ⟨3, ![1, 1, 64]⟩
abbrev S131072x64x3 : Shape := ⟨3, ![131072, 64, 3]⟩
abbrev S1x3x1 : Shape := ⟨3, ![1, 3, 1]⟩
abbrev S131072x3x128 : Shape := ⟨3, ![131072, 3, 128]⟩
abbrev S131072x192 : Shape := ⟨2, ![131072, 192]⟩
abbrev S131072x32 : Shape := ⟨2, ![131072, 32]⟩
abbrev S1x32 : Shape := ⟨2, ![1, 32]⟩

abbrev nBuf : Space → Nat
  | .hbm => 76
  | .vmem => 0
  | .smem => 0
  | _ => 0

abbrev bufTy : (tb : Table) → Fin (tcTables nBuf tb) → BufTy
  | .hbm, ⟨0, _⟩ => ⟨S131072x3x64, .f32⟩
  | .hbm, ⟨1, _⟩ => ⟨S64x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S192x32, .f32⟩
  | .hbm, ⟨6, _⟩ => ⟨S32, .f32⟩
  | .hbm, ⟨7, _⟩ => ⟨S3x3, .f32⟩
  | .hbm, ⟨8, _⟩ => ⟨S_, .f32⟩
  | .hbm, ⟨9, _⟩ => ⟨S3, .f32⟩
  | .hbm, ⟨10, _⟩ => ⟨S3x1, .f32⟩
  | .hbm, ⟨11, _⟩ => ⟨S131072x3x64, .f32⟩
  | .hbm, ⟨12, _⟩ => ⟨S1x1x64, .f32⟩
  | .hbm, ⟨13, _⟩ => ⟨S131072x3x64, .f32⟩
  | .hbm, ⟨14, _⟩ => ⟨S131072x3x64, .f32⟩
  | .hbm, ⟨15, _⟩ => ⟨S_, .f32⟩
  | .hbm, ⟨16, _⟩ => ⟨S131072x3x64, .f32⟩
  | .hbm, ⟨17, _⟩ => ⟨S131072x3x64, .f32⟩
  | .hbm, ⟨18, _⟩ => ⟨S131072x64x3, .f32⟩
  | .hbm, ⟨19, _⟩ => ⟨S131072x3x64, .f32⟩
  | .hbm, ⟨20, _⟩ => ⟨S1x3x1, .f32⟩
  | .hbm, ⟨21, _⟩ => ⟨S131072x3x64, .f32⟩
  | .hbm, ⟨22, _⟩ => ⟨S131072x3x64, .f32⟩
  | .hbm, ⟨23, _⟩ => ⟨S131072x3x128, .f32⟩
  | .hbm, ⟨24, _⟩ => ⟨S131072x3x64, .f32⟩
  | .hbm, ⟨25, _⟩ => ⟨S1x1x64, .f32⟩
  | .hbm, ⟨26, _⟩ => ⟨S131072x3x64, .f32⟩
  | .hbm, ⟨27, _⟩ => ⟨S131072x3x64, .f32⟩
  | .hbm, ⟨28, _⟩ => ⟨S_, .f32⟩
  | .hbm, ⟨29, _⟩ => ⟨S131072x3x64, .f32⟩
  | .hbm, ⟨30, _⟩ => ⟨S131072x3x64, .f32⟩
  | .hbm, ⟨31, _⟩ => ⟨S131072x3x64, .f32⟩
  | .hbm, ⟨32, _⟩ => ⟨S1x1x64, .f32⟩
  | .hbm, ⟨33, _⟩ => ⟨S131072x3x64, .f32⟩
  | .hbm, ⟨34, _⟩ => ⟨S131072x3x64, .f32⟩
  | .hbm, ⟨35, _⟩ => ⟨S_, .f32⟩
  | .hbm, ⟨36, _⟩ => ⟨S131072x3x64, .f32⟩
  | .hbm, ⟨37, _⟩ => ⟨S131072x3x64, .f32⟩
  | .hbm, ⟨38, _⟩ => ⟨S131072x64x3, .f32⟩
  | .hbm, ⟨39, _⟩ => ⟨S131072x3x64, .f32⟩
  | .hbm, ⟨40, _⟩ => ⟨S1x3x1, .f32⟩
  | .hbm, ⟨41, _⟩ => ⟨S131072x3x64, .f32⟩
  | .hbm, ⟨42, _⟩ => ⟨S131072x3x64, .f32⟩
  | .hbm, ⟨43, _⟩ => ⟨S131072x3x128, .f32⟩
  | .hbm, ⟨44, _⟩ => ⟨S131072x3x64, .f32⟩
  | .hbm, ⟨45, _⟩ => ⟨S1x1x64, .f32⟩
  | .hbm, ⟨46, _⟩ => ⟨S131072x3x64, .f32⟩
  | .hbm, ⟨47, _⟩ => ⟨S131072x3x64, .f32⟩
  | .hbm, ⟨48, _⟩ => ⟨S_, .f32⟩
  | .hbm, ⟨49, _⟩ => ⟨S131072x3x64, .f32⟩
  | .hbm, ⟨50, _⟩ => ⟨S131072x3x64, .f32⟩
  | .hbm, ⟨51, _⟩ => ⟨S131072x3x64, .f32⟩
  | .hbm, ⟨52, _⟩ => ⟨S1x1x64, .f32⟩
  | .hbm, ⟨53, _⟩ => ⟨S131072x3x64, .f32⟩
  | .hbm, ⟨54, _⟩ => ⟨S131072x3x64, .f32⟩
  | .hbm, ⟨55, _⟩ => ⟨S_, .f32⟩
  | .hbm, ⟨56, _⟩ => ⟨S131072x3x64, .f32⟩
  | .hbm, ⟨57, _⟩ => ⟨S131072x3x64, .f32⟩
  | .hbm, ⟨58, _⟩ => ⟨S131072x64x3, .f32⟩
  | .hbm, ⟨59, _⟩ => ⟨S131072x3x64, .f32⟩
  | .hbm, ⟨60, _⟩ => ⟨S1x3x1, .f32⟩
  | .hbm, ⟨61, _⟩ => ⟨S131072x3x64, .f32⟩
  | .hbm, ⟨62, _⟩ => ⟨S131072x3x64, .f32⟩
  | .hbm, ⟨63, _⟩ => ⟨S131072x3x128, .f32⟩
  | .hbm, ⟨64, _⟩ => ⟨S131072x3x64, .f32⟩
  | .hbm, ⟨65, _⟩ => ⟨S1x1x64, .f32⟩
  | .hbm, ⟨66, _⟩ => ⟨S131072x3x64, .f32⟩
  | .hbm, ⟨67, _⟩ => ⟨S131072x3x64, .f32⟩
  | .hbm, ⟨68, _⟩ => ⟨S_, .f32⟩
  | .hbm, ⟨69, _⟩ => ⟨S131072x3x64, .f32⟩
  | .hbm, ⟨70, _⟩ => ⟨S131072x3x64, .f32⟩
  | .hbm, ⟨71, _⟩ => ⟨S131072x192, .f32⟩
  | .hbm, ⟨72, _⟩ => ⟨S131072x32, .f32⟩
  | .hbm, ⟨73, _⟩ => ⟨S1x32, .f32⟩
  | .hbm, ⟨74, _⟩ => ⟨S131072x32, .f32⟩
  | .hbm, ⟨75, _⟩ => ⟨S131072x32, .f32⟩
  | _, _ => ⟨S131072x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call2_cst : Ref sig .tc := ⟨.hbm, 35, rfl⟩
abbrev main_call2_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call3_cst : Ref sig .tc := ⟨.hbm, 48, rfl⟩
abbrev main_call3_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call4_cst : Ref sig .tc := ⟨.hbm, 55, rfl⟩
abbrev main_call4_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call5_cst : Ref sig .tc := ⟨.hbm, 68, rfl⟩
abbrev main_call5_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.Block.lean ====
/- What one grid point of the kernel computes, read at an index: the three layers over one block of
   8192 rows, each row a vector of 256 numbers, and the output product. -/
module

public import proofs.«01_k».proof.Proof.Gen.KernelIdeal.Frame
public import Idealize.ShloMosaic.Lib.Pointwise

@[expose] public section

set_option maxRecDepth 16384

noncomputable section

namespace Cert.Block

open Idealize.ShloMosaic Cert.KernelIdeal Cert.KernelIdeal.Gen

/-- A block of the input rows, widened from 192 to 256 columns by zeros. -/
def widen (x : FVec Ideal S8192x192 .f32) : FVec Ideal S8192x256 .bf16 :=
  concatenate S8192x256 1 [⟨S8192x192, truncf .bf16 (shapeCast S8192x192 x shapeCasts_S8192x192_S8192x192) bitsLt_bf16_f32⟩,
    ⟨S8192x64, broadcast S8192x64 (Scalar.sitofp .bf16 0#32)⟩] concatenates_S8192x192_S8192x64_S8192x256_d1

/-- The messages of a block: the product of the state with `w1`, cut off below at zero. -/
def message (h : FVec Ideal S8192x256 .bf16) (w1 : FVec Ideal S256x256 .bf16) : FVec Ideal S8192x256 .bf16 :=
  maximumf (truncf .bf16 (matmul dot_S8192x256_S256x256_S8192x256_1_0_0_1_n_n none h
    (shapeCast S256x256 w1 shapeCasts_S256x256_S256x256) (constant S8192x256 .f32 0x00000000#32)) bitsLt_bf16_f32)
    (broadcast S8192x256 (Scalar.ofBits .bf16 0x0000#16))

/-- One layer of the kernel over a block: the messages set beside the state, times `w2`, cut off below at zero. -/
def step (h : FVec Ideal S8192x256 .bf16) (w1 : FVec Ideal S256x256 .bf16) (w2 : FVec Ideal S512x256 .bf16) :
    FVec Ideal S8192x256 .bf16 :=
  maximumf (truncf .bf16 (matmul dot_S8192x512_S512x256_S8192x256_1_0_0_1_n_n none
    (concatenate S8192x512 1 [⟨S8192x256, h⟩, ⟨S8192x256, message h w1⟩] concatenates_S8192x256_S8192x256_S8192x512_d1)
    (shapeCast S512x256 w2 shapeCasts_S512x256_S512x256) (constant S8192x256 .f32 0x00000000#32)) bitsLt_bf16_f32)
    (broadcast S8192x256 (Scalar.ofBits .bf16 0x0000#16))

/-- The kernel's three layers are three steps from the widened block. -/
theorem pay2_eq (x : FVec Ideal S8192x192 .f32) (w1 : FVec Ideal S256x256 .bf16) (w2 : FVec Ideal S512x256 .bf16) :
    k0_pay2 x w1 w2 = step (step (step (widen x) w1 w2) w1 w2) w1 w2 := rfl

/-- The widened block at an index. -/
theorem widen_apply (x : FVec Ideal S8192x192 .f32) (r : Fin 8192) (k : Fin 256) :
    widen x (ix2 r k) = if h : k.val < 192 then x (ix2 r ⟨k.val, h⟩) else 0 := by
  pointwise [widen]
  simp

/-- The messages at an index. -/
theorem message_apply (h : FVec Ideal S8192x256 .bf16) (w1 : FVec Ideal S256x256 .bf16)
    (r : Fin 8192) (c : Fin 256) :
    message h w1 (ix2 r c) = max (∑ k : Fin 256, h (ix2 r k) * w1 (ix2 k c)) 0 := by
  pointwise [message]

/-- One layer at an index. -/
theorem step_apply (h : FVec Ideal S8192x256 .bf16) (w1 : FVec Ideal S256x256 .bf16) (w2 : FVec Ideal S512x256 .bf16)
    (r : Fin 8192) (c : Fin 256) :
    step h w1 w2 (ix2 r c) =
      max ((∑ k : Fin 256, h (ix2 r k) * w2 (ix2 ⟨k.val, by omega⟩ c))
        + ∑ k : Fin 256, message h w1 (ix2 r k) * w2 (ix2 ⟨256 + k.val, by omega⟩ c)) 0 := by
  pointwise [step]

/-- The output product at an index. -/
theorem pay1_apply (h : FVec Ideal S8192x256 .bf16) (w3 : FVec Ideal S256x32 .bf16) (r : Fin 8192) (o : Fin 32) :
    k0_pay1 h w3 (ix2 r o) = ∑ k : Fin 256, h (ix2 r k) * w3 (ix2 k o) := by
  pointwise [k0_pay1]

end Cert.Block

end
-- ==== Proof.Weights.lean ====
/- The arrays that the kernel's program prepares for its launch: the three weight matrices and the flattened input, as terms of the arguments. -/
module

public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.Weights

open Idealize.ShloMosaic Idealize.ShloMosaic.TcCoe Idealize.SL.Sem Cert.KernelIdeal Cert.KernelIdeal.Gen Idealize.ShloMosaic.StableHlo

/-- Three 64 × 64 blocks side by side. -/
def row3 (a b d : FVec Ideal S64x64 .f32) : FVec Ideal S64x192 .f32 :=
  concatenate S64x192 1 [⟨S64x64, a⟩, ⟨S64x64, b⟩, ⟨S64x64, d⟩] concatenates_S64x64_S64x64_S64x64_S64x192_d1

/-- Three 64 × 192 rows of blocks on top of one another. -/
def col3 (a b d : FVec Ideal S64x192 .f32) : FVec Ideal S192x192 .f32 :=
  concatenate S192x192 0 [⟨S64x192, a⟩, ⟨S64x192, b⟩, ⟨S64x192, d⟩] concatenates_S64x192_S64x192_S64x192_S192x192_d0

/-- A 64 × 64 array of zeros. -/
def zero : FVec Ideal S64x64 .f32 := broadcastInDim S64x64 ![] bcast_S_S64x64 (constant S_ .f32 0#32)

/-- The block-diagonal matrix with three copies of `w`. -/
def block (w : FVec Ideal S64x64 .f32) : FVec Ideal S192x192 .f32 :=
  col3 (row3 w zero zero) (row3 zero w zero) (row3 zero zero w)

/-- A 192 × 192 matrix extended by zeros to 256 × 256. -/
def pad256 (x : FVec Ideal S192x192 .f32) : FVec Ideal S256x256 .f32 :=
  pad S256x256 ![0, 0] ![64, 64] ![0, 0] x (sitofp .f32 (constantI S_ 32 0#32)) pads_S192x192_S256x256_0640_0640 h_S_

/-- Two 256 × 256 matrices on top of one another. -/
def cat2 (a b : FVec Ideal S256x256 .f32) : FVec Ideal S512x256 .f32 :=
  concatenate S512x256 0 [⟨S256x256, a⟩, ⟨S256x256, b⟩] concatenates_S256x256_S256x256_S512x256_d0

/-- Equal blocks give equal rows of blocks. -/
theorem row3_congr {a b d a' b' d' : FVec Ideal S64x64 .f32} (ha : a = a') (hb : b = b') (hd : d = d') :
    row3 a b d = row3 a' b' d' := by
  subst ha hb hd; rfl

/-- Equal rows give equal columns of rows. -/
theorem col3_congr {a b d a' b' d' : FVec Ideal S64x192 .f32} (ha : a = a') (hb : b = b') (hd : d = d') :
    col3 a b d = col3 a' b' d' := by
  subst ha hb hd; rfl

/-- Equal halves give equal pairs. -/
theorem cat2_congr {a b a' b' : FVec Ideal S256x256 .f32} (ha : a = a') (hb : b = b') : cat2 a b = cat2 a' b' := by
  subst ha hb; rfl

/-- Which of the three nodes send messages to which: all but the pairs listed as zero. -/
def adj : FVec Ideal S3x3 .f32 := fun i => FloatOps.ofBits .f32 (lit0 (S3x3.rowMajor i))

/-- The matrix of the message means: each row of `adj` divided by its sum. -/
def mix : FVec Ideal S3x3 .f32 :=
  Host.divf (F := Ideal) adj (broadcastInDim S3x3 ![0, 1] bcast_S3x1_S3x3_0_1
    (broadcastInDim S3x1 ![0] bcast_S3_S3x1_0 (Host.reduceAdd (F := Ideal) adj (constant S_ .f32 0#32) reducesTo_S3x3_S3_d1 h_S_)))

/-- The 64 × 64 identity matrix. -/
def eye : FVec Ideal S64x64 .f32 :=
  uitofp .f32 (cmpi .eq (addi (iotaInDim S64x64 32 0) (broadcastInDim S64x64 ![] bcast_S_S64x64 (constantI S_ 32 0#32))) (iotaInDim S64x64 32 1))

/-- The Kronecker product of a 3 × 3 and a 64 × 64 matrix. -/
def kron (a : FVec Ideal S3x3 .f32) (b : FVec Ideal S64x64 .f32) : FVec Ideal S192x192 .f32 :=
  shapeCast S192x192 (mulf
    (broadcastInDim S3x64x3x64 ![0, 1, 2, 3] bcast_S3x1x3x1_S3x64x3x64_0_1_2_3 (broadcastInDim S3x1x3x1 ![0, 2] bcast_S3x3_S3x1x3x1_0_2 a))
    (broadcastInDim S3x64x3x64 ![0, 1, 2, 3] bcast_S1x64x1x64_S3x64x3x64_0_1_2_3 (broadcastInDim S1x64x1x64 ![1, 3] bcast_S64x64_S1x64x1x64_1_3 b)))
    shapeCasts_S3x64x3x64_S192x192

/-- The matrix product, as a sum over the middle axis of an array of products. -/
def prod (x y : FVec Ideal S192x192 .f32) : FVec Ideal S192x192 .f32 :=
  Host.reduceAdd (F := Ideal) (mulf
    (broadcastInDim S192x192x192 ![0, 1, 2] bcast_S192x192x1_S192x192x192_0_1_2 (broadcastInDim S192x192x1 ![0, 1] bcast_S192x192_S192x192x1_0_1 x))
    (broadcastInDim S192x192x192 ![0, 1, 2] bcast_S1x192x192_S192x192x192_0_1_2 (broadcastInDim S1x192x192 ![1, 2] bcast_S192x192_S1x192x192_1_2 y)))
    (constant S_ .f32 0#32) reducesTo_S192x192x192_S192x192_d1 h_S_

/-- The upper 64 rows of a 128 × 64 matrix. -/
def top (u : FVec Ideal S128x64 .f32) : FVec Ideal S64x64 .f32 :=
  extractStridedSlice S64x64 ![0, 0] u slices_S128x64_S64x64_0_0

/-- The lower 64 rows of a 128 × 64 matrix. -/
def bottom (u : FVec Ideal S128x64 .f32) : FVec Ideal S64x64 .f32 :=
  extractStridedSlice S64x64 ![64, 0] u slices_S128x64_S64x64_64_0

/-- The message weights that the kernel multiplies by. -/
def w1 (w : FVec Ideal S64x64 .f32) : FVec Ideal S256x256 .bf16 :=
  truncf (F := Ideal) .bf16 (pad256 (block w)) bitsLt_bf16_f32

/-- The update weights that the kernel multiplies by: those of the state on top of those of the messages. -/
def w2 (u : FVec Ideal S128x64 .f32) : FVec Ideal S512x256 .bf16 :=
  truncf (F := Ideal) .bf16 (cat2 (pad256 (block (top u)))
    (pad256 (prod (kron (transpose S3x3 [1, 0] mix transposes_S3x3_S3x3_1_0) eye) (block (bottom u))))) bitsLt_bf16_f32

/-- The readout weights that the kernel multiplies by. -/
def w3 (w : FVec Ideal S192x32 .f32) : FVec Ideal S256x32 .bf16 :=
  truncf (F := Ideal) .bf16 (pad S256x32 ![0, 0] ![64, 0] ![0, 0] w (sitofp .f32 (constantI S_ 32 0#32)) pads_S192x32_S256x32_0640_000 h_S_)
    bitsLt_bf16_f32

variable (m : (ℓ : Loc nD τ sig) → Buf (Elt Ideal) ℓ) (c : Dev nD)

/-- The contents of an array when the launch begins: what the preparing operations leave in it. -/
theorem V_eq (b : Ref sig .tc) : V m c b = after (hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11 ++ hostOps0_12 ++ hostOps0_13 ++ hostOps0_14 ++ hostOps0_15 ++ hostOps0_16) (fun b => m (c, b)) (Proc.devRef .tc b) := by
  show after (List.flatten _) _ _ = _
  simp only [List.flatten_cons, List.flatten_nil, List.append_nil, List.append_assoc]

/-- The message weights at the launch. -/
theorem v31 : V m c main_v31 = w1 (m (c.tc.loc main_arg1)) := by
  rw [V_eq]
  after_reads_simp
  refine congrArg (fun z => truncf (F := Ideal) .bf16 (pad256 z) bitsLt_bf16_f32) (col3_congr ?_ ?_ ?_)
  all_goals
    dsimp only [Matrix.cons_val]
    after_reads_simp
    refine row3_congr ?_ ?_ ?_
  all_goals
    try dsimp only [Matrix.cons_val]
    after_reads_simp
    rfl

/-- The update weights at the launch. -/
theorem v32 : V m c main_v32 = w2 (m (c.tc.loc main_arg3)) := by
  rw [V_eq]
  after_reads_simp
  refine congrArg (fun z => truncf (F := Ideal) .bf16 z bitsLt_bf16_f32) (cat2_congr ?_ ?_)
  all_goals after_reads_simp
  on_goal 2 =>
    refine congrArg (fun z => pad256 (prod (kron (transpose S3x3 [1, 0] mix transposes_S3x3_S3x3_1_0) eye) z)) (col3_congr ?_ ?_ ?_)
  on_goal 1 => refine congrArg pad256 (col3_congr ?_ ?_ ?_)
  all_goals
    dsimp only [Matrix.cons_val]
    after_reads_simp
    refine row3_congr ?_ ?_ ?_
  all_goals
    try dsimp only [Matrix.cons_val]
    after_reads_simp
    rfl

/-- The readout weights at the launch. -/
theorem v33 : V m c main_v33 = w3 (m (c.tc.loc main_arg5)) := by
  rw [V_eq]
  after_reads_simp
  rfl

/-- The flattened input at the launch. -/
theorem v34 : V m c main_v34 = shapeCast S131072x192 (m (c.tc.loc main_arg0)) shapeCasts_S131072x3x64_S131072x192 := by
  rw [V_eq]
  after_reads_simp
  rfl

end Cert.Weights

end
-- ==== Proof.WeightsAt.lean ====
/- The weights that the kernel multiplies by, read at an index. A row or column below 192 is written 64·a + p: entry p of node a. -/
module

public import proofs.«01_k».proof.Proof.Weights
public import Idealize.ShloMosaic.Lib.Tactic.CleanTypes
public import Idealize.ShloMosaic.Lib.WordCmp

@[expose] public section

set_option maxRecDepth 16384

noncomputable section

namespace Cert.Weights

open Idealize.ShloMosaic Idealize.ShloMosaic.TcCoe Idealize.SL.Sem Cert.KernelIdeal Cert.KernelIdeal.Gen

/-- Entry `p` of node `a` among 192. -/
abbrev at192 (a : Fin 3) (p : Fin 64) : Fin 192 := ⟨64 * a.val + p.val, by omega⟩

/-- Entry `p` of node `a` among 256. -/
abbrev at256 (a : Fin 3) (p : Fin 64) : Fin 256 := ⟨64 * a.val + p.val, by omega⟩

/-- The integer zero converts to the float zero. -/
theorem scalar_sitofp_zero : (FloatOps.sitofp .f32 0#32 : Ideal .f32) = (0 : EReal) := by
  show (((0#32).toInt : ℝ) : EReal) = 0
  simp

/-- The array of zeros at an index. -/
theorem zero_apply (p q : Fin 64) : zero (ix2 p q) = (0 : EReal) := by
  pointwise [zero]

/-- A row of blocks, read in the columns of node `b`, is block `b`. -/
theorem row3_apply (x y z : FVec Ideal S64x64 .f32) (p : Fin 64) (b : Fin 3) (q : Fin 64) :
    row3 x y z (ix2 p (at192 b q)) = (![x, y, z] b) (ix2 p q) := by
  fin_cases b
  · pointwise [row3]
  · pointwise [row3]
  · pointwise [row3]
    rw [dif_neg (by omega), dif_neg (by omega)]
    congr 1
    simp only [show 128 + q.val - 64 - 64 = q.val by omega]

/-- A column of rows, read in the rows of node `a`, is row `a`. -/
theorem col3_apply (x y z : FVec Ideal S64x192 .f32) (a : Fin 3) (p : Fin 64) (k : Fin 192) :
    col3 x y z (ix2 (at192 a p) k) = (![x, y, z] a) (ix2 p k) := by
  fin_cases a
  · pointwise [col3]
  · pointwise [col3]
  · pointwise [col3]
    rw [dif_neg (by omega), dif_neg (by omega)]
    congr 1
    simp only [show 128 + p.val - 64 - 64 = p.val by omega]

/-- Inside, the widened matrix is the matrix. -/
theorem pad256_lt (x : FVec Ideal S192x192 .f32) (j k : Fin 192) :
    pad256 x (ix2 ⟨j.val, by omega⟩ ⟨k.val, by omega⟩) = x (ix2 j k) := by
  pointwise [pad256]

/-- From row 192 on, the widened matrix is zero. -/
theorem pad256_ge (x : FVec Ideal S192x192 .f32) (j k : Fin 256) (h : 192 ≤ j.val) :
    pad256 x (ix2 j k) = (0 : EReal) := by
  pointwise [pad256]
  rw [dif_neg (by omega)]
  exact scalar_sitofp_zero

/-- The identity matrix at an index. -/
theorem eye_apply (p q : Fin 64) : eye (ix2 p q) = if p = q then (1 : EReal) else 0 := by
  pointwise [eye]
  rw [show IntOp.addi (BitVec.ofNat 32 p.val) 0#32 = BitVec.ofNat 32 p.val from BitVec.add_zero _,
    WordCmp.cmpi_eq_ofNat (by omega) (by omega)]
  by_cases h : p = q
  · subst h
    simp only [decide_true, if_true]
    show (((BitVec.ofBool true).toNat : ℝ) : EReal) = 1
    simp
  · rw [if_neg h, decide_eq_false fun e => h (Fin.ext e)]
    show (((BitVec.ofBool false).toNat : ℝ) : EReal) = 0
    simp

/-- The Kronecker product at an index. -/
theorem kron_apply (x : FVec Ideal S3x3 .f32) (y : FVec Ideal S64x64 .f32) (a b : Fin 3) (p q : Fin 64) :
    kron x y (ix2 (at192 a p) (at192 b q)) = x (ix2 a b) * y (ix2 p q) := by
  pointwise [kron]
  simp only [show (64 * a.val + p.val) / 64 = a.val by omega, show (64 * b.val + q.val) / 64 = b.val by omega,
    show (64 * a.val + p.val) % 64 = p.val by omega, show (64 * b.val + q.val) % 64 = q.val by omega]

/-- The matrix product at an index. -/
theorem prod_apply (x y : FVec Ideal S192x192 .f32) (j k : Fin 192) :
    prod x y (ix2 j k) = ∑ t : Fin 192, x (ix2 j t) * y (ix2 t k) := by
  pointwise [prod]

/-- The upper half at an index. -/
theorem top_apply (u : FVec Ideal S128x64 .f32) (p q : Fin 64) : top u (ix2 p q) = u (ix2 ⟨p.val, by omega⟩ q) := by
  pointwise [top]

/-- The lower half at an index. -/
theorem bottom_apply (u : FVec Ideal S128x64 .f32) (p q : Fin 64) : bottom u (ix2 p q) = u (ix2 ⟨64 + p.val, by omega⟩ q) := by
  pointwise [bottom]

/-- The adjacency matrix at an index: the first node and each of the others are neighbours. -/
theorem adj_apply (a b : Fin 3) : adj (ix2 a b) = if (a = 0) = (b = 0) then (0 : EReal) else 1 := by
  have h : lit0 (S3x3.rowMajor (ix2 a b)) = if (a = 0) = (b = 0) then 0x00000000#32 else 0x3F800000#32 := by
    revert a b; decide
  unfold adj
  rw [h]
  split
  · exact Ideal.ofBits_zero_f32
  · exact Ideal.ofBits_one_f32

/-- The transposed matrix of the means at an index. -/
theorem mixT_apply (a b : Fin 3) : transpose S3x3 [1, 0] mix transposes_S3x3_S3x3_1_0 (ix2 a b) =
    Ideal.div (adj (ix2 b a)) (∑ j : Fin 3, adj (ix2 b j)) := by
  pointwise [mix]

/-- Above row 192, the readout weights are the argument. -/
theorem w3_lt (w : FVec Ideal S192x32 .f32) (k : Fin 192) (o : Fin 32) :
    w3 w (ix2 ⟨k.val, by omega⟩ o) = w (ix2 k o) := by
  pointwise [w3]

/-- From row 192 on, the readout weights are zero. -/
theorem w3_ge (w : FVec Ideal S192x32 .f32) (k : Fin 256) (o : Fin 32) (h : 192 ≤ k.val) :
    w3 w (ix2 k o) = (0 : EReal) := by
  pointwise [w3]
  rw [dif_neg (by omega)]
  exact scalar_sitofp_zero

/-- The upper of two matrices on top of one another. -/
theorem cat2_lt (x y : FVec Ideal S256x256 .f32) (j k : Fin 256) :
    cat2 x y (ix2 ⟨j.val, by omega⟩ k) = x (ix2 j k) := by
  pointwise [cat2]

/-- The lower of two matrices on top of one another. -/
theorem cat2_ge (x y : FVec Ideal S256x256 .f32) (j k : Fin 256) :
    cat2 x y (ix2 ⟨256 + j.val, by omega⟩ k) = y (ix2 j k) := by
  pointwise [cat2]

/-- The block-diagonal matrix: `w` within a node, zero between two nodes. -/
theorem block_apply (w : FVec Ideal S64x64 .f32) (a b : Fin 3) (p q : Fin 64) :
    block w (ix2 (at192 a p) (at192 b q)) = if a = b then w (ix2 p q) else (0 : EReal) := by
  unfold block
  rw [col3_apply]
  fin_cases a <;> fin_cases b <;> simp [row3_apply, zero_apply]

/-- The coefficient of the message of node `a` in the mean that node `b` receives. -/
def coeff (a b : Fin 3) : EReal := Ideal.div (adj (ix2 b a)) (∑ j : Fin 3, adj (ix2 b j))

/-- A sum over 192 is a sum over three nodes and their 64 entries. -/
theorem sum192 (f : Fin 192 → EReal) : ∑ t : Fin 192, f t = ∑ a : Fin 3, ∑ p : Fin 64, f (at192 a p) := by
  rw [← Fintype.sum_prod_type' (f := fun a p => f (at192 a p))]
  refine (Fintype.sum_equiv (finProdFinEquiv (m := 3) (n := 64)) _ _ fun x => ?_).symm
  exact congrArg f (Fin.ext (by simp [finProdFinEquiv]; omega))

/-- A sum over 256 whose last 64 terms vanish is a sum over three nodes and their 64 entries. -/
theorem sum256 (f : Fin 256 → EReal) (hf : ∀ k : Fin 256, 192 ≤ k.val → f k = 0) :
    ∑ k : Fin 256, f k = ∑ a : Fin 3, ∑ p : Fin 64, f (at256 a p) := by
  rw [show ∑ k : Fin 256, f k = ∑ k : Fin (192 + 64), f k from rfl, Fin.sum_univ_add,
    Finset.sum_eq_zero (s := Finset.univ) (f := fun i : Fin 64 => f (Fin.natAdd 192 i)) fun i _ => hf _ (by simp), add_zero]
  exact sum192 fun t => f (Fin.castAdd 64 t)

/-- The product that mixes the messages: the mean's coefficient times the lower half of the update weights. -/
theorem mixed_apply (u : FVec Ideal S64x64 .f32) (a b : Fin 3) (p q : Fin 64) :
    prod (kron (transpose S3x3 [1, 0] mix transposes_S3x3_S3x3_1_0) eye) (block u) (ix2 (at192 a p) (at192 b q)) =
      coeff a b * u (ix2 p q) := by
  rw [prod_apply, sum192]
  simp only [kron_apply, block_apply, eye_apply]
  rw [Finset.sum_eq_single b (fun d _ hd => by simp [hd]) (by simp),
    Finset.sum_eq_single p (fun d _ hd => by simp [Ne.symm hd]) (by simp)]
  rw [mixT_apply, if_pos rfl, if_pos rfl, mul_one]
  rfl

/-- The message weights: the argument within a node, zero between two nodes. -/
theorem w1_apply (w : FVec Ideal S64x64 .f32) (a b : Fin 3) (p q : Fin 64) :
    w1 w (ix2 (at256 a p) (at256 b q)) = if a = b then w (ix2 p q) else (0 : EReal) :=
  (pad256_lt (block w) (at192 a p) (at192 b q)).trans (block_apply w a b p q)

/-- From row 192 on, the message weights are zero. -/
theorem w1_ge (w : FVec Ideal S64x64 .f32) (j k : Fin 256) (h : 192 ≤ j.val) : w1 w (ix2 j k) = (0 : EReal) :=
  pad256_ge (block w) j k h

/-- The update weights of the state: the argument's upper half within a node, zero between two nodes. -/
theorem w2_top_apply (u : FVec Ideal S128x64 .f32) (a b : Fin 3) (p q : Fin 64) :
    w2 u (ix2 ⟨64 * a.val + p.val, by omega⟩ (at256 b q)) = if a = b then u (ix2 ⟨p.val, by omega⟩ q) else (0 : EReal) := by
  refine (cat2_lt _ _ (at256 a p) (at256 b q)).trans ((pad256_lt _ (at192 a p) (at192 b q)).trans ?_)
  rw [block_apply, top_apply]

/-- From row 192 on, the update weights of the state are zero. -/
theorem w2_top_ge (u : FVec Ideal S128x64 .f32) (j k : Fin 256) (h : 192 ≤ j.val) :
    w2 u (ix2 ⟨j.val, by omega⟩ k) = (0 : EReal) :=
  (cat2_lt _ _ j k).trans (pad256_ge _ j k h)

/-- The update weights of the messages: the mean's coefficient of two nodes times the argument's lower half. -/
theorem w2_bottom_apply (u : FVec Ideal S128x64 .f32) (a b : Fin 3) (p q : Fin 64) :
    w2 u (ix2 ⟨256 + (64 * a.val + p.val), by omega⟩ (at256 b q)) = coeff a b * u (ix2 ⟨64 + p.val, by omega⟩ q) := by
  refine (cat2_ge _ _ (at256 a p) (at256 b q)).trans ((pad256_lt _ (at192 a p) (at192 b q)).trans ?_)
  rw [mixed_apply, bottom_apply]

/-- From row 192 on, the update weights of the messages are zero. -/
theorem w2_bottom_ge (u : FVec Ideal S128x64 .f32) (j k : Fin 256) (h : 192 ≤ j.val) :
    w2 u (ix2 ⟨256 + j.val, by omega⟩ k) = (0 : EReal) :=
  (cat2_ge _ _ j k).trans (pad256_ge _ j k h)

end Cert.Weights

end
-- ==== Proof.Ref.lean ====
/- What the reference computes, read at an index: three layers over the whole batch and the output product. -/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Ref

open Idealize.ShloMosaic Idealize.ShloMosaic.TcCoe Idealize.SL.Sem Cert.ReferenceIdeal Cert.ReferenceIdeal.Gen

/-- The adjacency matrix that the reference spells out. -/
def adj : FVec Ideal S3x3 .f32 := fun i => FloatOps.ofBits .f32 (lit0 (S3x3.rowMajor i))

/-- The number of neighbours of each node, as a column. -/
def deg : FVec Ideal S3x1 .f32 :=
  broadcastInDim S3x1 ![0] bcast_S3_S3x1_0 (Host.reduceAdd adj (constant S_ .f32 0x00000000#32) reducesTo_S3x3_S3_d1 h_S_)

/-- The messages of every node of every row of the batch. -/
def message (h : FVec Ideal S131072x3x64 .f32) (w : FVec Ideal S64x64 .f32) (b : FVec Ideal S64 .f32) :
    FVec Ideal S131072x3x64 .f32 :=
  maximumf (addf (Host.dotGeneral dot_S131072x3x64_S64x64_S131072x3x64_2_0_01_1_n_n none h w)
    (broadcastInDim S131072x3x64 ![0, 1, 2] bcast_S1x1x64_S131072x3x64_0_1_2 (broadcastInDim S1x1x64 ![2] bcast_S64_S1x1x64_2 b)))
    (broadcastInDim S131072x3x64 ![] bcast_S_S131072x3x64 (constant S_ .f32 0x00000000#32))

/-- The mean of the neighbours' messages at every node. -/
def mean (g : FVec Ideal S131072x3x64 .f32) : FVec Ideal S131072x3x64 .f32 :=
  Host.divf (transpose S131072x3x64 [0, 2, 1] (Host.dotGeneral dot_S131072x3x64_S3x3_S131072x64x3_1_1_02_0_n_n none g adj)
      transposes_S131072x64x3_S131072x3x64_0_2_1)
    (broadcastInDim S131072x3x64 ![0, 1, 2] bcast_S1x3x1_S131072x3x64_0_1_2 (broadcastInDim S1x3x1 ![1, 2] bcast_S3x1_S1x3x1_1_2 deg))

/-- One layer of the reference. -/
def step (h : FVec Ideal S131072x3x64 .f32) (w : FVec Ideal S64x64 .f32) (b : FVec Ideal S64 .f32)
    (u : FVec Ideal S128x64 .f32) (b' : FVec Ideal S64 .f32) : FVec Ideal S131072x3x64 .f32 :=
  maximumf (addf (Host.dotGeneral dot_S131072x3x128_S128x64_S131072x3x64_2_0_01_1_n_n none
      (concatenate S131072x3x128 2 [⟨S131072x3x64, h⟩, ⟨S131072x3x64, mean (message h w b)⟩]
        concatenates_S131072x3x64_S131072x3x64_S131072x3x128_d2) u)
    (broadcastInDim S131072x3x64 ![0, 1, 2] bcast_S1x1x64_S131072x3x64_0_1_2 (broadcastInDim S1x1x64 ![2] bcast_S64_S1x1x64_2 b')))
    (broadcastInDim S131072x3x64 ![] bcast_S_S131072x3x64 (constant S_ .f32 0x00000000#32))

/-- The output product of the reference. -/
def readout (h : FVec Ideal S131072x3x64 .f32) (w : FVec Ideal S192x32 .f32) (b : FVec Ideal S32 .f32) :
    FVec Ideal S131072x32 .f32 :=
  addf (Host.dotGeneral dot_S131072x192_S192x32_S131072x32_1_0_0_1_n_n none
      (shapeCast S131072x192 h shapeCasts_S131072x3x64_S131072x192) w)
    (broadcastInDim S131072x32 ![0, 1] bcast_S1x32_S131072x32_0_1 (broadcastInDim S1x32 ![1] bcast_S32_S1x32_1 b))

/-- The reference's result is the readout of three layers. -/
theorem res_eq (m : (ℓ : Loc nD τ sig) → Buf (Elt Ideal) ℓ) (c : Dev nD) :
    Value.res_out0 m c = readout (step (step (step (m (c.tc.loc main_arg0)) (m (c.tc.loc main_arg1)) (m (c.tc.loc main_arg2))
        (m (c.tc.loc main_arg3)) (m (c.tc.loc main_arg4))) (m (c.tc.loc main_arg1)) (m (c.tc.loc main_arg2))
        (m (c.tc.loc main_arg3)) (m (c.tc.loc main_arg4))) (m (c.tc.loc main_arg1)) (m (c.tc.loc main_arg2))
        (m (c.tc.loc main_arg3)) (m (c.tc.loc main_arg4))) (m (c.tc.loc main_arg5)) (m (c.tc.loc main_arg6)) := rfl

/-- The messages at an index. -/
theorem message_apply (h : FVec Ideal S131072x3x64 .f32) (w : FVec Ideal S64x64 .f32) (b : FVec Ideal S64 .f32)
    (r : Fin 131072) (n : Fin 3) (k : Fin 64) :
    message h w b (ix3 r n k) = max ((∑ i : Fin 64, h (ix3 r n i) * w (ix2 i k)) + b (ix1 k)) 0 := by
  pointwise [message]

/-- The mean at an index. -/
theorem mean_apply (g : FVec Ideal S131072x3x64 .f32) (r : Fin 131072) (n : Fin 3) (k : Fin 64) :
    mean g (ix3 r n k) = Ideal.div (∑ j : Fin 3, g (ix3 r j k) * adj (ix2 n j)) (∑ j : Fin 3, adj (ix2 n j)) := by
  pointwise [mean, deg]

/-- One layer at an index. -/
theorem step_apply (h : FVec Ideal S131072x3x64 .f32) (w : FVec Ideal S64x64 .f32) (b : FVec Ideal S64 .f32)
    (u : FVec Ideal S128x64 .f32) (b' : FVec Ideal S64 .f32) (r : Fin 131072) (n : Fin 3) (k : Fin 64) :
    step h w b u b' (ix3 r n k) = max ((∑ i : Fin 64, h (ix3 r n i) * u (ix2 ⟨i.val, by omega⟩ k))
      + (∑ i : Fin 64, mean (message h w b) (ix3 r n i) * u (ix2 ⟨64 + i.val, by omega⟩ k)) + b' (ix1 k)) 0 := by
  pointwise [step]

/-- The readout at an index. -/
theorem readout_apply (h : FVec Ideal S131072x3x64 .f32) (w : FVec Ideal S192x32 .f32) (b : FVec Ideal S32 .f32)
    (r : Fin 131072) (o : Fin 32) :
    readout h w b (ix2 r o) = (∑ q : Fin 192, h (ix3 r ⟨q.val / 64, by omega⟩ ⟨q.val % 64, by omega⟩) * w (ix2 q o)) + b (ix1 o) := by
  pointwise [readout]

/-- The adjacency matrix at an index. -/
theorem adj_apply (n j : Fin 3) : adj (ix2 n j) = if (n = 0) = (j = 0) then 0 else 1 := by
  have h : lit0 (S3x3.rowMajor (ix2 n j)) = if (n = 0) = (j = 0) then 0x00000000#32 else 0x3F800000#32 := by
    revert n j; decide
  unfold adj
  rw [h]
  split
  · exact Ideal.ofBits_zero_f32
  · exact Ideal.ofBits_one_f32

end Cert.Ref

end
-- ==== Proof.Mean.lean ====
/- The arithmetic of one node's update over the extended reals: weighting the messages before or after the product. -/
module

public import proofs.«01_k».proof.Proof.WeightsAt
public import proofs.«01_k».proof.Proof.Ref

@[expose] public section

noncomputable section

namespace Cert.Mean

open Idealize.ShloMosaic Cert.Weights

/-- The two programs spell out the same adjacency matrix. -/
theorem adj_eq (a b : Fin 3) : Cert.Weights.adj (ix2 a b) = Cert.Ref.adj (ix2 a b) :=
  (Cert.Weights.adj_apply a b).trans (Cert.Ref.adj_apply a b).symm

/-- Two is not zero. -/
theorem two_ne : (1 + 1 : EReal) ≠ 0 := ne_of_gt (lt_of_lt_of_le zero_lt_one (le_add_of_nonneg_right zero_le_one))

/-- A half is nonnegative. -/
theorem half_nonneg : (0 : EReal) ≤ (1 + 1)⁻¹ := EReal.inv_nonneg_of_nonneg (add_nonneg zero_le_one zero_le_one)

/-- The mean's coefficients are nonnegative. -/
theorem coeff_nonneg (a b : Fin 3) : 0 ≤ coeff a b := by
  unfold coeff
  simp only [Cert.Weights.adj_apply, Fin.sum_univ_three]
  fin_cases a <;> fin_cases b <;> simp [Ideal.div, two_ne, half_nonneg]

/-- The mean of nonnegative values is the sum of the values, each times its coefficient. -/
theorem mean_eq (g : Fin 3 → EReal) (hg : ∀ a, 0 ≤ g a) (b : Fin 3) :
    Ideal.div (∑ a : Fin 3, g a * Cert.Weights.adj (ix2 b a)) (∑ a : Fin 3, Cert.Weights.adj (ix2 b a)) = ∑ a : Fin 3, g a * coeff a b := by
  unfold coeff
  simp only [Cert.Weights.adj_apply, Fin.sum_univ_three]
  fin_cases b <;> simp [Ideal.div, two_ne, EReal.right_distrib_of_nonneg (hg 1) (hg 2)]

/-- A nonnegative weighted sum times `w` is the sum of the values, each times its coefficient times `w`. -/
theorem weighted_mul (g : Fin 3 → EReal) (hg : ∀ a, 0 ≤ g a) (k : Fin 3 → EReal) (hk : ∀ a, 0 ≤ k a) (w : EReal) :
    (∑ a : Fin 3, g a * k a) * w = ∑ a : Fin 3, g a * (k a * w) := by
  have h (a : Fin 3) : 0 ≤ g a * k a := mul_nonneg (hg a) (hk a)
  simp only [Fin.sum_univ_three]
  rw [EReal.right_distrib_of_nonneg (add_nonneg (h 0) (h 1)) (h 2), EReal.right_distrib_of_nonneg (h 0) (h 1)]
  simp only [mul_assoc]

end Cert.Mean

end
-- ==== Proof.Layer.lean ====
/- The kernel's block and the reference's batch, layer by layer: where the biases are zero, a row of the kernel's state holds the three nodes'
   states of the batch row that it stands for, one after the other. -/
module

public import proofs.«01_k».proof.Proof.Block
public import proofs.«01_k».proof.Proof.Mean

@[expose] public section

noncomputable section

namespace Cert.Layer

open Idealize.ShloMosaic Cert.Weights

/-- Row `r` of the kernel's state `h` holds the state of batch row `s` of the reference's `g`. -/
def Holds (h : FVec Ideal Cert.KernelIdeal.S8192x256 .bf16) (g : FVec Ideal Cert.ReferenceIdeal.S131072x3x64 .f32)
    (r : Fin 8192) (s : Fin 131072) : Prop :=
  ∀ (a : Fin 3) (p : Fin 64), (h (ix2 r (at256 a p)) : EReal) = g (ix3 s a p)

/-- Every entry of `b` is zero. -/
def Zero {n : Nat} (b : FVec Ideal ⟨1, ![n]⟩ .f32) : Prop :=
  ∀ k : Fin n, (b (ix1 k) : EReal) = 0

/-- The messages agree. -/
theorem message {h : FVec Ideal Cert.KernelIdeal.S8192x256 .bf16} {g : FVec Ideal Cert.ReferenceIdeal.S131072x3x64 .f32}
    {r : Fin 8192} {s : Fin 131072} (hg : Holds h g r s) (w : FVec Ideal Cert.KernelIdeal.S64x64 .f32)
    (b : FVec Ideal Cert.ReferenceIdeal.S64 .f32) (hb : Zero b) :
    Holds (Cert.Block.message h (w1 w)) (Cert.Ref.message g w b) r s := by
  intro n k
  rw [Cert.Block.message_apply, Cert.Ref.message_apply, hb k, add_zero,
    sum256 _ fun j hj => by rw [w1_ge w j _ hj, mul_zero]]
  rw [Finset.sum_eq_single n (fun d _ hd => by simp only [w1_apply, if_neg hd, mul_zero, Finset.sum_const_zero]) (by simp)]
  simp only [w1_apply, if_true, hg n]

/-- The messages are nonnegative. -/
theorem message_nonneg (g : FVec Ideal Cert.ReferenceIdeal.S131072x3x64 .f32) (w : FVec Ideal Cert.KernelIdeal.S64x64 .f32)
    (b : FVec Ideal Cert.ReferenceIdeal.S64 .f32) (s : Fin 131072) (a : Fin 3) (p : Fin 64) :
    (0 : EReal) ≤ Cert.Ref.message g w b (ix3 s a p) := by
  rw [Cert.Ref.message_apply]
  exact le_max_right _ _

/-- The layers agree. -/
theorem step {h : FVec Ideal Cert.KernelIdeal.S8192x256 .bf16} {g : FVec Ideal Cert.ReferenceIdeal.S131072x3x64 .f32}
    {r : Fin 8192} {s : Fin 131072} (hg : Holds h g r s) (w : FVec Ideal Cert.KernelIdeal.S64x64 .f32)
    (b : FVec Ideal Cert.ReferenceIdeal.S64 .f32) (hb : Zero b)
    (u : FVec Ideal Cert.KernelIdeal.S128x64 .f32)
    (b' : FVec Ideal Cert.ReferenceIdeal.S64 .f32) (hb' : Zero b') :
    Holds (Cert.Block.step h (w1 w) (w2 u)) (Cert.Ref.step g w b u b') r s := by
  have hm := message hg w b hb
  intro n k
  rw [Cert.Block.step_apply, Cert.Ref.step_apply, hb' k, add_zero,
    sum256 _ fun j hj => by rw [w2_top_ge u j _ hj, mul_zero],
    sum256 _ fun j hj => by rw [w2_bottom_ge u j _ hj, mul_zero]]
  congr 2
  · rw [Finset.sum_eq_single n (fun d _ hd => by simp only [w2_top_apply, if_neg hd, mul_zero, Finset.sum_const_zero]) (by simp)]
    simp only [w2_top_apply, if_true, hg n]
  · rw [Finset.sum_comm]
    refine Finset.sum_congr rfl fun p _ => ?_
    simp only [w2_bottom_apply, Cert.Ref.mean_apply, ← Cert.Mean.adj_eq]
    rw [Cert.Mean.mean_eq _ (fun a => message_nonneg g w b s a p) n,
      Cert.Mean.weighted_mul _ (fun a => message_nonneg g w b s a p) _ (fun a => Cert.Mean.coeff_nonneg a n)]
    exact Finset.sum_congr rfl fun a _ => by rw [hm a p]

/-- The output products agree. -/
theorem readout {h : FVec Ideal Cert.KernelIdeal.S8192x256 .bf16} {g : FVec Ideal Cert.ReferenceIdeal.S131072x3x64 .f32}
    {r : Fin 8192} {s : Fin 131072} (hg : Holds h g r s) (w : FVec Ideal Cert.KernelIdeal.S192x32 .f32)
    (b : FVec Ideal Cert.ReferenceIdeal.S32 .f32) (hb : Zero b) (o : Fin 32) :
    (Cert.KernelIdeal.Gen.k0_pay1 h (w3 w) (ix2 r o) : EReal) = Cert.Ref.readout g w b (ix2 s o) := by
  rw [Cert.Block.pay1_apply, Cert.Ref.readout_apply, hb o, add_zero,
    sum256 _ fun j hj => by rw [w3_ge w j _ hj, mul_zero], sum192]
  refine Finset.sum_congr rfl fun a _ => Finset.sum_congr rfl fun p _ => ?_
  rw [hg a p, show w3 w (ix2 (at256 a p) o) = w (ix2 (at192 a p) o) from w3_lt w (at192 a p) o]
  simp only [show (64 * a.val + p.val) / 64 = a.val by omega, show (64 * a.val + p.val) % 64 = p.val by omega]

end Cert.Layer

end
-- ==== Proof.Biases.lean ====
/- The precondition, read: the comparison of the three biases with zero is true exactly where every one of their entries is zero. -/
module

public import proofs.«01_k».proof.Defs
public import proofs.«01_k».proof.Proof.Gen.Pre_biases_zero
public import proofs.«01_k».proof.Proof.Layer
public import Idealize.ShloMosaic.Lib.ReduceAll

@[expose] public section

noncomputable section

namespace Cert.Biases

open Idealize.ShloMosaic Cert.Pre_biases_zero Cert.Pre_biases_zero.Gen

/-- A conjunction of bits that is 1 has both bits 1. -/
theorem andi_eq_one : ∀ x y : BitVec 1, IntOp.andi x y = 1#1 → x = 1#1 ∧ y = 1#1 := by
  decide

/-- A comparison for equality that is 1 compares equal values. -/
theorem eq_of_cmpf {x y : EReal} (h : (FloatOps.cmpf (F := Ideal) (φ := .f32) .oeq x y) = 1#1) : x = y := by
  by_contra hne
  revert h
  show ¬ (BitVec.ofBool (decide (x = y)) = 1#1)
  simp [hne]

/-- The precondition gives the three biases zero. -/
theorem zero_of_pre {x0 : FVec Ideal S131072x3x64 .f32} {x1 : FVec Ideal S64x64 .f32} {x2 : FVec Ideal S64 .f32}
    {x3 : FVec Ideal S128x64 .f32} {x4 : FVec Ideal S64 .f32} {x5 : FVec Ideal S192x32 .f32} {x6 : FVec Ideal S32 .f32}
    (h : fn (F := Ideal) x0 x1 x2 x3 x4 x5 x6 = fun _ => 1#1) :
    Cert.Layer.Zero x2 ∧ Cert.Layer.Zero x4 ∧ Cert.Layer.Zero x6 := by
  have h0 := congrFun h fun i => i.elim0
  obtain ⟨h24, h6⟩ := andi_eq_one _ _ h0
  obtain ⟨h2, h4⟩ := andi_eq_one _ _ h24
  have : Subsingleton S_.Idx := ⟨fun a b => funext fun i => i.elim0⟩
  refine ⟨fun k => ?_, fun k => ?_, fun k => ?_⟩
  · exact (eq_of_cmpf (Host.reduce_andi_all _ _ _ _ _ h2 (ix1 k))).trans Ideal.ofBits_zero_f32
  · exact (eq_of_cmpf (Host.reduce_andi_all _ _ _ _ _ h4 (ix1 k))).trans Ideal.ofBits_zero_f32
  · exact (eq_of_cmpf (Host.reduce_andi_all _ _ _ _ _ h6 (ix1 k))).trans Ideal.ofBits_zero_f32

end Cert.Biases

end
-- ==== Proof.Tie.lean ====
/- The array after the kernel's run: grid point t writes rows 8192·t to 8192·t + 8191 of the result, and all sixteen points together write it all. -/
module

public import proofs.«01_k».proof.Proof.Gen.KernelIdeal.Value
public import proofs.«01_k».proof.Proof.Layer
public import Idealize.ShloMosaic.Lib.Pipeline.ValueKit

@[expose] public section

set_option maxRecDepth 16384

noncomputable section

namespace Cert.Tie

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The batch row that row `r` of grid point `t`'s block stands for. -/
def batchRow (t : Fin cfg0.N) (r : Fin 8192) : Fin 131072 :=
  ⟨8192 * t.val + r.val, by have : t.val < 16 := t.isLt; omega⟩

/-- The input's block index at a grid point. -/
theorem index0 : ∀ t : Fin cfg0.N, win0_0.index t = ![t.val, 0] := (by decide +kernel : ∀ t : Fin grid0.N, win0_0.index t = ![t.val, 0])
/-- The message weights are one block. -/
theorem index1 : ∀ t : Fin cfg0.N, win0_1.index t = ![0, 0] := (by decide +kernel : ∀ t : Fin grid0.N, win0_1.index t = ![0, 0])
/-- The update weights are one block. -/
theorem index2 : ∀ t : Fin cfg0.N, win0_2.index t = ![0, 0] := (by decide +kernel : ∀ t : Fin grid0.N, win0_2.index t = ![0, 0])
/-- The readout weights are one block. -/
theorem index3 : ∀ t : Fin cfg0.N, win0_3.index t = ![0, 0] := (by decide +kernel : ∀ t : Fin grid0.N, win0_3.index t = ![0, 0])
/-- The result's block index at a grid point. -/
theorem index4 : ∀ t : Fin cfg0.N, win0_4.index t = ![t.val, 0] := (by decide +kernel : ∀ t : Fin grid0.N, win0_4.index t = ![t.val, 0])

/-- The input block of a grid point, at an index. -/
theorem iblk0_apply (t : Fin cfg0.N) (r : Fin 8192) (q : Fin 192) :
    (iblk m c 0 t (ix2 r q) : EReal) = V m c main_v34 (ix2 (batchRow t r) q) := by
  refine congrArg (V m c main_v34) (funext fun a => Fin.ext ?_)
  fin_cases a
  · blk_simp [index0]
    exact congrArg (· + r.val) (Nat.mul_comm _ _)
  · blk_simp [index0]
    rfl

/-- Every grid point reads the whole of the message weights. -/
theorem iblk1_eq (t : Fin cfg0.N) : iblk m c 1 t = V m c main_v31 := by
  funext j
  refine congrArg (V m c main_v31) (funext fun a => Fin.ext ?_)
  fin_cases a <;> blk_simp [index1]

/-- Every grid point reads the whole of the update weights. -/
theorem iblk2_eq (t : Fin cfg0.N) : iblk m c 2 t = V m c main_v32 := by
  funext j
  refine congrArg (V m c main_v32) (funext fun a => Fin.ext ?_)
  fin_cases a <;> blk_simp [index2]

/-- Every grid point reads the whole of the readout weights. -/
theorem iblk3_eq (t : Fin cfg0.N) : iblk m c 3 t = V m c main_v33 := by
  funext j
  refine congrArg (V m c main_v33) (funext fun a => Fin.ext ?_)
  fin_cases a <;> blk_simp [index3]

/-- One layer of the reference, of the kernel's argument arrays. -/
def layer (h : FVec Ideal S131072x3x64 .f32) : FVec Ideal S131072x3x64 .f32 :=
  Cert.Ref.step h (m (c.tc.loc main_arg1)) (m (c.tc.loc main_arg2)) (m (c.tc.loc main_arg3)) (m (c.tc.loc main_arg4))

/-- The reference's result, of the kernel's argument arrays. -/
def result : FVec Ideal S131072x32 .f32 :=
  Cert.Ref.readout (layer m c (layer m c (layer m c (m (c.tc.loc main_arg0))))) (m (c.tc.loc main_arg5)) (m (c.tc.loc main_arg6))

/-- The widened input block of a grid point holds the batch rows that it stands for. -/
theorem holds_widen (t : Fin cfg0.N) (r : Fin 8192) :
    Cert.Layer.Holds (Cert.Block.widen (iblk m c 0 t)) (m (c.tc.loc main_arg0)) r (batchRow t r) := by
  intro a p
  rw [Cert.Block.widen_apply, dif_pos (show 64 * a.val + p.val < 192 by omega)]
  refine (iblk0_apply m c t r ⟨64 * a.val + p.val, by omega⟩).trans ?_
  rw [Cert.Weights.v34]
  pointwise

/-- Where the three biases are zero, the array after the run is the reference's result. -/
theorem final (h2 : Cert.Layer.Zero (m (c.tc.loc main_arg2))) (h4 : Cert.Layer.Zero (m (c.tc.loc main_arg4)))
    (h6 : Cert.Layer.Zero (m (c.tc.loc main_arg6))) : (dats m 0 c).arrAt 4 cfg0.N = result m c := by
  refine (dats m 0 c).arrAt_eq_of_covers 4 _ (by decide +kernel) fun t hf y => ?_
  blk_simp [index4]
  rw [after0_4]
  frame_out
  have hy : ((View.whole main_v35).slice (win0_4.rect t)).emb y = ix2 (batchRow t (y 0)) (y 1) := by
    refine funext fun a => Fin.ext ?_
    fin_cases a
    · blk_simp [index4]
      exact congrArg (· + (y 0).val) (Nat.mul_comm _ _)
    · blk_simp [index4]
      rfl
  rw [hy, iblk1_eq, iblk2_eq, iblk3_eq, Cert.Weights.v31, Cert.Weights.v32, Cert.Weights.v33, Cert.Block.pay2_eq]
  refine (congrArg _ (eq_ix2 y)).trans ?_
  have hs {h : FVec Ideal S8192x256 .bf16} {g : FVec Ideal S131072x3x64 .f32} (hg : Cert.Layer.Holds h g (y 0) (batchRow t (y 0))) :=
    Cert.Layer.step hg (m (c.tc.loc main_arg1)) _ h2 (m (c.tc.loc main_arg3)) _ h4
  exact Cert.Layer.readout (hs (hs (hs (holds_widen m c t (y 0))))) _ _ h6 (y 1)

end Cert.Tie

end
-- ==== Proof.lean ====
/- The claim, assembled: the three programs run and leave their arguments unchanged, and the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_biases_zero
public import proofs.«01_k».proof.Proof.Gen.KernelIdeal.Value
public import proofs.«01_k».proof.Proof.Gen.ReferenceIdeal.Run
public import proofs.«01_k».proof.Proof.Biases
public import proofs.«01_k».proof.Proof.Tie
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, leaves its arguments unchanged and every semaphore at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference, which has no semaphores. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where the biases are zero, the kernel and the reference end with the same result. -/
theorem algebraic : Cert.algebraic_KernelIdeal_ReferenceIdeal_pre_biases_zero := by
  intro m ρ m' ρ' hpre hagree
  refine ⟨fun c => Cert.Tie.result m c, ?_, ?_⟩
  · refine (θ_run Cert.KernelIdeal.defs _ _).mono (fun _ h c => ⟨(h c).1.trans ?_, (h c).2⟩)
      (Cert.KernelIdeal.Value.run_blocks (F := Ideal) m ρ)
    obtain ⟨h2, h4, h6⟩ := Cert.Biases.zero_of_pre (hpre c)
    exact Cert.Tie.final m c h2 h4 h6
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    refine (Cert.Ref.res_eq m' c).trans ?_
    rw [e0, e1, e2, e3, e4, e5, e6]
    rfl

/-- All of the claims. -/
theorem claim : Cert.Claim :=
  ⟨Cert.Kernel.Gen.facts, Cert.KernelIdeal.Gen.facts, Cert.ReferenceIdeal.Gen.facts, Cert.Pre_biases_zero.Gen.facts,
    frame_kernel, frame_kernelIdeal, fun m ρ _ => frame_kernelIdeal m ρ trivial,
    frame_referenceIdeal, fun m ρ _ => frame_referenceIdeal m ρ trivial, trivial, algebraic⟩

end Cert.Proof

end
